-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S32768x512 : Shape := ⟨2, ![32768, 512]⟩
abbrev S32768x128 : Shape := ⟨2, ![32768, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S256 : S_.BroadcastsInDim S256 (![] : Fin 0 → Fin S256.rank)
  bcast_S_S128 : S_.BroadcastsInDim S128 (![] : Fin 0 → Fin S128.rank)

variable [Facts]

def fn {F : FTy → Type} [FloatOps F] (main_arg0 : FVec F S32768x512 .f32) (main_arg1 : FVec F S32768x128 .f32) (main_arg2 : FVec F S512x256 .f32) (main_arg3 : FVec F S256 .f32) (main_arg4 : FVec F S256x128 .f32) (main_arg5 : FVec F S128 .f32) (main_arg6 : FVec F S512x256 .f32) (main_arg7 : FVec F S256 .f32) (main_arg8 : FVec F S256x128 .f32) (main_arg9 : FVec F S128 .f32) : IVec S256 1 × IVec S128 1 × IVec S256 1 × IVec S128 1 :=
  let main_cst : FVec F S_ .f32 := constant S_ .f32 0x00000000#32
  let main_v0 : FVec F S256 .f32 := broadcastInDim S256 ![] bcast_S_S256 main_cst
  let main_v1 : IVec S256 1 := cmpf .oeq main_arg3 main_v0
  let main_cst_0 : FVec F S_ .f32 := constant S_ .f32 0x00000000#32
  let main_v2 : FVec F S128 .f32 := broadcastInDim S128 ![] bcast_S_S128 main_cst_0
  let main_v3 : IVec S128 1 := cmpf .oeq main_arg5 main_v2
  let main_cst_1 : FVec F S_ .f32 := constant S_ .f32 0x00000000#32
  let main_v4 : FVec F S256 .f32 := broadcastInDim S256 ![] bcast_S_S256 main_cst_1
  let main_v5 : IVec S256 1 := cmpf .oeq main_arg7 main_v4
  let main_cst_2 : FVec F S_ .f32 := constant S_ .f32 0x00000000#32
  let main_v6 : FVec F S128 .f32 := broadcastInDim S128 ![] bcast_S_S128 main_cst_2
  let main_v7 : IVec S128 1 := cmpf .oeq main_arg9 main_v6
  (main_v1, main_v3, main_v5, main_v7)
-- ==== Kernel.lean ====
abbrev S32768x512 : Shape := ⟨2, ![32768, 512]⟩
abbrev S32768x128 : Shape := ⟨2, ![32768, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1 : Shape := ⟨1, ![1]⟩
abbrev S8192x512 : Shape := ⟨2, ![8192, 512]⟩
abbrev S8192x128 : Shape := ⟨2, ![8192, 128]⟩
abbrev S512x512 : Shape := ⟨2, ![512, 512]⟩
abbrev S4096x512 : Shape := ⟨2, ![4096, 512]⟩
abbrev S4096x256 : Shape := ⟨2, ![4096, 256]⟩
abbrev S4096x128 : Shape := ⟨2, ![4096, 128]⟩
abbrev S1x4096x128 : Shape := ⟨3, ![1, 4096, 128]⟩
abbrev S1x1x1 : Shape := ⟨3, ![1, 1, 1]⟩

abbrev nBuf : Space → Nat
  | .hbm => 12
  | .vmem => 13
  | .smem => 1
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S32768x128, .f32⟩
  | .hbm, ⟨11, _⟩ => ⟨S1, .f32⟩
  | .local _ .vmem, ⟨0, _⟩ => ⟨S8192x512, .f32⟩
  | .local _ .vmem, ⟨1, _⟩ => ⟨S8192x512, .f32⟩
  | .local _ .vmem, ⟨2, _⟩ => ⟨S8192x128, .f32⟩
  | .local _ .vmem, ⟨3, _⟩ => ⟨S8192x128, .f32⟩
  | .local _ .vmem, ⟨4, _⟩ => ⟨S512x256, .f32⟩
  | .local _ .vmem, ⟨5, _⟩ => ⟨S256x128, .f32⟩
  | .local _ .vmem, ⟨6, _⟩ => ⟨S512x256, .f32⟩
  | .local _ .vmem, ⟨7, _⟩ => ⟨S256x128, .f32⟩
  | .local _ .vmem, ⟨8, _⟩ => ⟨S8192x128, .f32⟩
  | .local _ .vmem, ⟨9, _⟩ => ⟨S8192x128, .f32⟩
  | .local _ .vmem, ⟨10, _⟩ => ⟨S512x512, .bf16⟩
  | .local _ .vmem, ⟨11, _⟩ => ⟨S256x128, .bf16⟩
  | .local _ .vmem, ⟨12, _⟩ => ⟨S256x128, .bf16⟩
  | .local _ .smem, ⟨0, _⟩ => ⟨S1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32768x512 : Shape := ⟨2, ![32768, 512]⟩
abbrev S32768x128 : Shape := ⟨2, ![32768, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S32768x256 : Shape := ⟨2, ![32768, 256]⟩
abbrev S1x256 : Shape := ⟨2, ![1, 256]⟩
abbrev S_ : Shape := ⟨0, ![]⟩
abbrev S1x128 : Shape := ⟨2, ![1, 128]⟩
abbrev S1 : Shape := ⟨1, ![1]⟩

abbrev nBuf : Space → Nat
  | .hbm => 50
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S32768x256, .f32⟩
  | .hbm, ⟨11, _⟩ => ⟨S1x256, .f32⟩
  | .hbm, ⟨12, _⟩ => ⟨S32768x256, .f32⟩
  | .hbm, ⟨13, _⟩ => ⟨S32768x256, .f32⟩
  | .hbm, ⟨14, _⟩ => ⟨S_, .f32⟩
  | .hbm, ⟨15, _⟩ => ⟨S32768x256, .f32⟩
  | .hbm, ⟨16, _⟩ => ⟨S32768x256, .f32⟩
  | .hbm, ⟨17, _⟩ => ⟨S32768x128, .f32⟩
  | .hbm, ⟨18, _⟩ => ⟨S1x128, .f32⟩
  | .hbm, ⟨19, _⟩ => ⟨S32768x128, .f32⟩
  | .hbm, ⟨20, _⟩ => ⟨S32768x128, .f32⟩
  | .hbm, ⟨21, _⟩ => ⟨S32768x256, .f32⟩
  | .hbm, ⟨22, _⟩ => ⟨S1x256, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S32768x256, .f32⟩
  | .hbm, ⟨27, _⟩ => ⟨S32768x256, .f32⟩
  | .hbm, ⟨28, _⟩ => ⟨S32768x128, .f32⟩
  | .hbm, ⟨29, _⟩ => ⟨S1x128, .f32⟩
  | .hbm, ⟨30, _⟩ => ⟨S32768x128, .f32⟩
  | .hbm, ⟨31, _⟩ => ⟨S32768x128, .f32⟩
  | .hbm, ⟨32, _⟩ => ⟨S_, .f32⟩
  | .hbm, ⟨33, _⟩ => ⟨S32768x128, .f32⟩
  | .hbm, ⟨34, _⟩ => ⟨S32768x128, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S_, .f32⟩
  | .hbm, ⟨39, _⟩ => ⟨S32768x128, .f32⟩
  | .hbm, ⟨40, _⟩ => ⟨S32768x128, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.Block.lean ====
/-
  What one grid point leaves in the buffers it stores to, case by case: the first point (A), the middle points (B) and
  the last one (C). Every statement is about the generated named terms (`out0_A_6`, ...) and says they are one of four
  plain functions of the point's input blocks, the three cached weight buffers and the running loss.
-/
module

public import proofs.«01_k».proof.Proof.Gen.KernelIdeal.Value
public import Idealize.ShloMosaic.Lib.ValueIdx
public import Idealize.ShloMosaic.Lib.Pipeline.ValueKit

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- The offset `(0, 0)` as the constant function. -/
theorem off2 : (![0, 0] : Fin 2 → Nat) = fun _ => 0 := funext fun a => by fin_cases a <;> rfl
/-- The offset `(0)` as the constant function. -/
theorem off1 : (![0] : Fin 1 → Nat) = fun _ => 0 := funext fun a => by fin_cases a; rfl

/-- Reading a matrix through the rectangle that is all of it, sizes written out, reads the matrix. -/
theorem ld_all {e : EltTy} {n k : Nat} (inb : ∀ a, (![0, 0] : Fin 2 → Nat) a + (![n, k] : Fin 2 → Nat) a ≤ (⟨2, ![n, k]⟩ : Shape).size a)
    (X : (⟨2, ![n, k]⟩ : Shape).Idx → Elt F e) : View.ld X (Rect.unit (s := ⟨2, ![n, k]⟩) ![0, 0] ![n, k] inb) = X :=
  View.ld_unit_zero (S := ⟨2, ![n, k]⟩) off2 inb X

/-- A one-element array holds the same value at every index. -/
theorem ld_one (inb : ∀ a, (![0] : Fin 1 → Nat) a + (![1] : Fin 1 → Nat) a ≤ S1.size a) (X : Vec F S1 .f32)
    (j : (Rect.unit (s := S1) ![0] ![1] inb).shape.Idx) : View.ld X (Rect.unit (s := S1) ![0] ![1] inb) j = X (ValueIdx.ix1 0) :=
  congrArg X (funext fun a => by fin_cases a; exact Subsingleton.elim (α := Fin 1) _ _)

/-- The first 4096 rows of a block of 8192 rows of `x`. -/
abbrev loX (x : Vec F S8192x512 .f32) : Vec F S4096x512 .f32 := View.ld x (Rect.unit ![0, 0] ![4096, 512] inb_S8192x512_S4096x512_0_0)
/-- The last 4096 rows of it. -/
abbrev hiX (x : Vec F S8192x512 .f32) : Vec F S4096x512 .f32 := View.ld x (Rect.unit ![4096, 0] ![4096, 512] inb_S8192x512_S4096x512_4096_0)
/-- The first 4096 rows of a block of 8192 rows of the noise. -/
abbrev loN (x : Vec F S8192x128 .f32) : Vec F S4096x128 .f32 := View.ld x (Rect.unit ![0, 0] ![4096, 128] inb_S8192x128_S4096x128_0_0)
/-- The last 4096 rows of it. -/
abbrev hiN (x : Vec F S8192x128 .f32) : Vec F S4096x128 .f32 := View.ld x (Rect.unit ![4096, 0] ![4096, 128] inb_S8192x128_S4096x128_4096_0)

/-- The two stores of samples a point makes, each of 4096 rows. -/
abbrev samplePieces (x : Vec F S8192x512 .f32) (n : Vec F S8192x128 .f32) (w : Vec F S512x512 .bf16) (wm ws : Vec F S256x128 .bf16) :
    List (View.Piece (Elt F) S8192x128 .f32) :=
  [⟨Rect.unit ![4096, 0] ![4096, 128] inb_S8192x128_S4096x128_4096_0, k0_pay17 (hiX x) w wm ws (hiN n)⟩,
   ⟨Rect.unit ![0, 0] ![4096, 128] inb_S8192x128_S4096x128_0_0, k0_pay10 (loX x) w wm ws (loN n)⟩]

/-- The block of samples a point leaves. -/
def sampleBlock (x : Vec F S8192x512 .f32) (n : Vec F S8192x128 .f32) (w : Vec F S512x512 .bf16) (wm ws : Vec F S256x128 .bf16) :
    Vec F S8192x128 .f32 := View.canon (samplePieces x n w wm ws)

/-- The two stores cover the block. -/
theorem sample_cover (x : Vec F S8192x512 .f32) (n : Vec F S8192x128 .f32) (w : Vec F S512x512 .bf16) (wm ws : Vec F S256x128 .bf16)
    (y : S8192x128.Idx) : ∃ p ∈ samplePieces x n w wm ws, y ∈ p.1.set :=
  View.cover_of_tiledL (samplePieces x n w wm ws) S4096x128.size (by sl_kernel_rfl) y

/-- The running loss after a point's two chunks, from the running loss `l` before them. -/
def lossStep (x : Vec F S8192x512 .f32) (w : Vec F S512x512 .bf16) (wm ws : Vec F S256x128 .bf16) (l : Elt F .f32) : Elt F .f32 :=
  k0_pay18 (hiX x) w wm ws (k0_pay12 l (k0_pay11 (loX x) w wm ws))

/-- The two stores into the first-layer cache: the left and the right 256 columns. -/
abbrev firstPieces (a b : Vec F S512x256 .f32) : List (View.Piece (Elt F) S512x512 .bf16) :=
  [⟨Rect.unit ![0, 256] ![512, 256] inb_S512x512_S512x256_0_256, k0_pay3 b⟩,
   ⟨Rect.unit ![0, 0] ![512, 256] inb_S512x512_S512x256_0_0, k0_pay2 a⟩]

/-- The cached first-layer weights: the two 512×256 matrices side by side. -/
def firstLayer (a b : Vec F S512x256 .f32) : Vec F S512x512 .bf16 := View.canon (firstPieces a b)

/-- The two stores cover the cache. -/
theorem first_cover (a b : Vec F S512x256 .f32) (y : S512x512.Idx) : ∃ p ∈ firstPieces a b, y ∈ p.1.set :=
  View.cover_of_tiledL (firstPieces a b) S512x256.size (by sl_kernel_rfl) y

section
variable (c : Dev nD) (i : grid0.Coords)
  (a1 : Memref sig .tc .vmem S8192x512 .f32) (h1 : a1.IsWhole) (a2 : Memref sig .tc .vmem S8192x128 .f32) (h2 : a2.IsWhole)
  (a3 : Memref sig .tc .vmem S512x256 .f32) (h3 : a3.IsWhole) (a4 : Memref sig .tc .vmem S256x128 .f32) (h4 : a4.IsWhole)
  (a5 : Memref sig .tc .vmem S512x256 .f32) (h5 : a5.IsWhole) (a6 : Memref sig .tc .vmem S256x128 .f32) (h6 : a6.IsWhole)
  (a7 : Memref sig .tc .vmem S8192x128 .f32) (h7 : a7.IsWhole) (a8 : Memref sig .tc .smem S1 .f32) (h8 : a8.IsWhole)
  (a9 : Memref sig .tc .vmem S512x512 .bf16) (h9 : a9.IsWhole) (a10 : Memref sig .tc .vmem S256x128 .bf16) (h10 : a10.IsWhole)
  (a11 : Memref sig .tc .vmem S256x128 .bf16) (h11 : a11.IsWhole)
  (x0 : Vec F S8192x512 .f32) (x1 : Vec F S8192x128 .f32) (x2 : Vec F S512x256 .f32) (x3 : Vec F S256x128 .f32)
  (x4 : Vec F S512x256 .f32) (x5 : Vec F S256x128 .f32)
  (l : Vec F S1 .f32) (s0 : Vec F S512x512 .bf16) (s1 s2 : Vec F S256x128 .bf16)

/-- A middle point leaves the block of samples computed from the cached weights. -/
theorem out_B_6 (hc0 : ¬cond0_0 i) (hc1 : ¬cond0_1 i) (hc2 : ¬cond0_2 i) :
    out0_B_6 c i a1 h1 a2 h2 a3 h3 a4 h4 a5 h5 a6 h6 a7 h7 a8 h8 a9 h9 a10 h10 a11 h11 hc0 hc1 hc2 x0 x1 x2 x3 x4 x5 l s0 s1 s2
      = sampleBlock x0 x1 s0 s1 s2 := by
  unfold out0_B_6
  rw [View.read_writes_eq_canon _ _ _ (cover0_B_6 c i a1 h1 a2 h2 a3 h3 a4 h4 a5 h5 a6 h6 a7 h7 a8 h8 a9 h9 a10 h10 a11 h11 hc0 hc1 hc2 x0 x1 x2 x3 x4 x5 l s0 s1 s2)]
  unfold kernelRun0_B
  dsimp only
  sl_unfold_words
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]
  rfl

/-- So does the last point. -/
theorem out_C_6 (hc0 : ¬cond0_0 i) (hc1 : ¬cond0_1 i) (hc2 : cond0_2 i) :
    out0_C_6 c i a1 h1 a2 h2 a3 h3 a4 h4 a5 h5 a6 h6 a7 h7 a8 h8 a9 h9 a10 h10 a11 h11 hc0 hc1 hc2 x0 x1 x2 x3 x4 x5 l s0 s1 s2
      = sampleBlock x0 x1 s0 s1 s2 := by
  unfold out0_C_6
  rw [View.read_writes_eq_canon _ _ _ (cover0_C_6 c i a1 h1 a2 h2 a3 h3 a4 h4 a5 h5 a6 h6 a7 h7 a8 h8 a9 h9 a10 h10 a11 h11 hc0 hc1 hc2 x0 x1 x2 x3 x4 x5 l s0 s1 s2)]
  unfold kernelRun0_C
  dsimp only
  sl_unfold_words
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]
  rfl

/-- A middle point adds its two chunks to the running loss. -/
theorem out_B_7 (hc0 : ¬cond0_0 i) (hc1 : ¬cond0_1 i) (hc2 : ¬cond0_2 i) :
    out0_B_7 c i a1 h1 a2 h2 a3 h3 a4 h4 a5 h5 a6 h6 a7 h7 a8 h8 a9 h9 a10 h10 a11 h11 hc0 hc1 hc2 x0 x1 x2 x3 x4 x5 l s0 s1 s2
      = fun _ => lossStep x0 s0 s1 s2 (l (ValueIdx.ix1 0)) := by
  unfold out0_B_7
  rw [View.read_writes_eq_canon _ _ _ (cover0_B_7 c i a1 h1 a2 h2 a3 h3 a4 h4 a5 h5 a6 h6 a7 h7 a8 h8 a9 h9 a10 h10 a11 h11 hc0 hc1 hc2 x0 x1 x2 x3 x4 x5 l s0 s1 s2)]
  unfold kernelRun0_B
  dsimp only
  sl_unfold_words
  rw [View.canon_cons_unit_zero (S := S1) off1]
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]
  exact funext fun _ => congrArg (fun z => lossStep x0 s0 s1 s2 z) (ld_one _ l _)

/-- The last point adds its two chunks and finishes the loss. -/
theorem out_C_7 (hc0 : ¬cond0_0 i) (hc1 : ¬cond0_1 i) (hc2 : cond0_2 i) :
    out0_C_7 c i a1 h1 a2 h2 a3 h3 a4 h4 a5 h5 a6 h6 a7 h7 a8 h8 a9 h9 a10 h10 a11 h11 hc0 hc1 hc2 x0 x1 x2 x3 x4 x5 l s0 s1 s2
      = fun _ => k0_pay1 (lossStep x0 s0 s1 s2 (l (ValueIdx.ix1 0))) := by
  unfold out0_C_7
  rw [View.read_writes_eq_canon _ _ _ (cover0_C_7 c i a1 h1 a2 h2 a3 h3 a4 h4 a5 h5 a6 h6 a7 h7 a8 h8 a9 h9 a10 h10 a11 h11 hc0 hc1 hc2 x0 x1 x2 x3 x4 x5 l s0 s1 s2)]
  unfold kernelRun0_C
  dsimp only
  sl_unfold_words
  rw [View.canon_cons_unit_zero (S := S1) off1]
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]
  exact funext fun _ => congrArg (fun z => k0_pay1 (lossStep x0 s0 s1 s2 z)) (ld_one _ l _)

/-- The first point caches the first-layer weights side by side. -/
theorem scratch_A_0 (hc0 : cond0_0 i) (hc1 : cond0_1 i) (hc2 : ¬cond0_2 i) :
    sout0_A_0 c i a1 h1 a2 h2 a3 h3 a4 h4 a5 h5 a6 h6 a7 h7 a8 h8 a9 h9 a10 h10 a11 h11 hc0 hc1 hc2 x0 x1 x2 x3 x4 x5
      = firstLayer x2 x4 := by
  unfold sout0_A_0
  rw [View.read_writes_eq_canon _ _ _ (scover0_A_0 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]
  rfl

/-- It caches the second-layer weights of the mean. -/
theorem scratch_A_1 (hc0 : cond0_0 i) (hc1 : cond0_1 i) (hc2 : ¬cond0_2 i) :
    sout0_A_1 c i a1 h1 a2 h2 a3 h3 a4 h4 a5 h5 a6 h6 a7 h7 a8 h8 a9 h9 a10 h10 a11 h11 hc0 hc1 hc2 x0 x1 x2 x3 x4 x5
      = k0_pay4 x3 := by
  unfold sout0_A_1
  rw [View.read_writes_eq_canon _ _ _ (scover0_A_1 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  rw [View.canon_unit_zero (S := S256x128) off2]
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]

/-- It caches the second-layer weights of the spread. -/
theorem scratch_A_2 (hc0 : cond0_0 i) (hc1 : cond0_1 i) (hc2 : ¬cond0_2 i) :
    sout0_A_2 c i a1 h1 a2 h2 a3 h3 a4 h4 a5 h5 a6 h6 a7 h7 a8 h8 a9 h9 a10 h10 a11 h11 hc0 hc1 hc2 x0 x1 x2 x3 x4 x5
      = k0_pay5 x5 := by
  unfold sout0_A_2
  rw [View.read_writes_eq_canon _ _ _ (scover0_A_2 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  rw [View.canon_unit_zero (S := S256x128) off2]
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]

/-- Reading the whole first-layer cache after its two stores reads the two matrices side by side. -/
theorem readCov_firstLayer (v : View sig .tc .vmem S512x512 .bf16) (a b : Vec F S512x256 .f32) :
    v.readCov
      [⟨Rect.unit ![0, 256] ![512, 256] inb_S512x512_S512x256_0_256, k0_pay3 b⟩,
       ⟨Rect.unit ![0, 0] ![512, 256] inb_S512x512_S512x256_0_0, k0_pay2 a⟩]
      (Rect.unit ![0, 0] ![512, 512] inb_S512x512_S512x512_0_0).toLoadRect = firstLayer a b :=
  (View.readCov_eq_canon_ld v _ (Rect.unit ![0, 0] ![512, 512] inb_S512x512_S512x512_0_0)
    (first_cover a b)).trans (ld_all _ _)

/-- The first point leaves the block of samples computed from the weights it has just cached. -/
theorem out_A_6 (hc0 : cond0_0 i) (hc1 : cond0_1 i) (hc2 : ¬cond0_2 i) :
    out0_A_6 c i a1 h1 a2 h2 a3 h3 a4 h4 a5 h5 a6 h6 a7 h7 a8 h8 a9 h9 a10 h10 a11 h11 hc0 hc1 hc2 x0 x1 x2 x3 x4 x5
      = sampleBlock x0 x1 (firstLayer x2 x4) (k0_pay4 x3) (k0_pay5 x5) := by
  unfold out0_A_6
  rw [View.read_writes_eq_canon _ _ _ (cover0_A_6 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]
  simp only [View.readCov_unit_zero (S := S256x128) _ off2, readCov_firstLayer]
  rfl

/-- The first point starts the running loss from zero. -/
theorem out_A_7 (hc0 : cond0_0 i) (hc1 : cond0_1 i) (hc2 : ¬cond0_2 i) :
    out0_A_7 c i a1 h1 a2 h2 a3 h3 a4 h4 a5 h5 a6 h6 a7 h7 a8 h8 a9 h9 a10 h10 a11 h11 hc0 hc1 hc2 x0 x1 x2 x3 x4 x5
      = fun _ => lossStep x0 (firstLayer x2 x4) (k0_pay4 x3) (k0_pay5 x5) (Scalar.ofBits .f32 0x00000000#32) := by
  unfold out0_A_7
  rw [View.read_writes_eq_canon _ _ _ (cover0_A_7 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  rw [View.canon_cons_unit_zero (S := S1) off1]
  simp only [View.readAt_eq_ld, h1.read_unread, h2.read_unread, h3.read_unread, h4.read_unread, h5.read_unread, h6.read_unread,
    h8.read_unread, h9.read_unread, h10.read_unread, h11.read_unread, View.ld_unit_zero (S := S512x256) off2,
    View.ld_unit_zero (S := S256x128) off2, View.ld_unit_zero (S := S512x512) off2, View.ld_unit_zero (S := S1) off1, ld_all]
  simp only [View.readCov_unit_zero (S := S256x128) _ off2, readCov_firstLayer]
  rfl

end

end Cert.KernelIdeal.Block

end
-- ==== Proof.Model.lean ====
/-
  The mathematics, free of any program: the two-layer network of one row, the sample and the loss term made of its
  two outputs, over the extended reals; and the two facts that differ between the kernel's and the reference's way of
  writing them (half the exponent squared is the exponent; the added ones sum to a constant).
-/
module

public import Idealize.ShloMosaic.PureOps.Ideal.Laws
public import Idealize.ShloMosaic.Lib.Pointwise
public import Idealize.ShloMosaic.Lib.IdealHost

@[expose] public section

noncomputable section

namespace Cert.Model

open Idealize.ShloMosaic
open scoped BigOperators

/-- A hidden unit of one row: the row times a column of the first weights, cut off at zero. -/
def hidden (x : Fin 512 → EReal) (W : Fin 512 → Fin 256 → EReal) (j : Fin 256) : EReal := max (∑ k, x k * W k j) 0

/-- One output of the two-layer network of one row. -/
def head (x : Fin 512 → EReal) (W : Fin 512 → Fin 256 → EReal) (V : Fin 256 → Fin 128 → EReal) (d : Fin 128) : EReal :=
  ∑ j, hidden x W j * V j d

/-- One half, as the programs write it. -/
abbrev half : EReal := Ideal.ofBits .f32 0x3F000000#32

/-- The sample drawn with noise `n` at mean `μ` and log-variance `σ`. -/
def sample (n μ σ : EReal) : EReal := n * Ideal.exp (σ * half) + μ

/-- The loss term of one entry, the constant one left out. -/
def term (μ σ : EReal) : EReal := σ - μ * μ - Ideal.exp (σ * half) * Ideal.exp (σ * half)

/-- The loss the kernel forms of all entries' means and log-variances: the terms summed, the count of the entries added
    once, the whole times minus one half. -/
def loss (μ σ : Fin 32768 → Fin 128 → EReal) : EReal :=
  (∑ r, ∑ d, term (μ r d) (σ r d) + Ideal.ofBits .f32 0x4A800000#32) * Ideal.ofBits .f32 0xBF000000#32

/-- Row `r` of a matrix. -/
abbrev row {n k : Nat} (A : (⟨2, ![n, k]⟩ : Shape).Idx → EReal) (r : Fin n) : Fin k → EReal := fun j => A (ix2 r j)

/-- A matrix as a function of its two coordinates. -/
abbrev mat {n k : Nat} (A : (⟨2, ![n, k]⟩ : Shape).Idx → EReal) : Fin n → Fin k → EReal := fun i j => A (ix2 i j)

/-! ## Where the two ways of writing agree -/

/-- The programs' half is the real number one half. -/
theorem half_eq : half = ((1 / 2 : ℝ) : EReal) := by
  simp [half, Ideal.ofBits, Ideal.ieee]
  norm_num [← EReal.coe_mul]

/-- The programs' two is the real number two. -/
theorem two_eq : Ideal.ofBits .f32 0x40000000#32 = ((2 : ℝ) : EReal) := by
  simp [Ideal.ofBits, Ideal.ieee]
  norm_num [← EReal.coe_mul]

/-- Dividing by two is multiplying by one half. -/
theorem div_two (σ : EReal) : Ideal.div σ (Ideal.ofBits .f32 0x40000000#32) = σ * half := by
  rw [two_eq, Ideal.div_coe two_ne_zero, half_eq]

/-- The exponential of half a number, squared, is the exponential of the number. -/
theorem exp_half_sq (σ : EReal) : Ideal.exp (σ * half) * Ideal.exp (σ * half) = Ideal.exp σ := by
  rw [half_eq]
  induction σ using EReal.rec with
  | bot => rw [EReal.bot_mul_coe_of_pos (by norm_num)]; simp
  | top => rw [EReal.top_mul_coe_of_pos (by norm_num)]; simp
  | coe s => rw [← EReal.coe_mul, Ideal.exp_coe, ← EReal.coe_mul, ← Real.exp_add, Ideal.exp_coe]; ring_nf

/-- One entry of the reference's sum is one plus the kernel's term. -/
theorem entry_eq (μ σ : EReal) :
    Ideal.ofBits .f32 0x3F800000#32 + σ - μ * μ - Ideal.exp σ = 1 + term μ σ := by
  rw [term, exp_half_sq, Ideal.ofBits_one_f32]
  simp only [sub_eq_add_neg, add_assoc]

/-- The count of the entries, as the kernel writes it. -/
theorem count_eq : Ideal.ofBits .f32 0x4A800000#32 = ((4194304 : ℝ) : EReal) := by
  simp [Ideal.ofBits, Ideal.ieee]
  norm_num [← EReal.coe_mul]

/-- One for each entry sums to the count of the entries. -/
theorem ones_eq : ∑ _r : Fin 32768, ∑ _d : Fin 128, (1 : EReal) = Ideal.ofBits .f32 0x4A800000#32 := by
  rw [count_eq]
  simp only [Finset.sum_const, Finset.card_univ, Fintype.card_fin]
  rw [← EReal.coe_one, ← EReal.coe_nsmul, ← EReal.coe_nsmul]
  norm_num [← EReal.coe_mul]

/-- Minus one half of the sum of the reference's entries is the kernel's loss. -/
theorem loss_eq (μ σ : Fin 32768 → Fin 128 → EReal) :
    Ideal.ofBits .f32 0xBF000000#32
        * ∑ r, ∑ d, (Ideal.ofBits .f32 0x3F800000#32 + σ r d - μ r d * μ r d - Ideal.exp (σ r d)) = loss μ σ := by
  simp only [entry_eq, Finset.sum_add_distrib, ones_eq]
  rw [loss, mul_comm, add_comm]

end Cert.Model

end
-- ==== Proof.Chunk.lean ====
/-
  What one grid point computes, entry by entry, over the extended reals: the payloads of the kernel's body read at an
  index are the network, the sample and the sum of the loss terms of `Model`.
-/
module

public import proofs.«01_k».proof.Proof.Block
public import proofs.«01_k».proof.Proof.Model

@[expose] public section

noncomputable section

namespace Cert.KernelIdeal.Chunk

open Cert.KernelIdeal Cert.KernelIdeal.Gen Cert.KernelIdeal.Block Cert.Model Idealize.ShloMosaic
open scoped BigOperators

/-- A rectangle of a matrix places its entry `(k, l)` at its corner plus `(k, l)`. -/
theorem unit_emb {R C h w o o' : Nat}
    (inb : ∀ a, (![o, o'] : Fin 2 → Nat) a + (![h, w] : Fin 2 → Nat) a ≤ (⟨2, ![R, C]⟩ : Shape).size a)
    (k : Fin h) (l : Fin w) (i : (⟨2, ![R, C]⟩ : Shape).Idx) (h0 : (i 0 : Nat) = o + k) (h1 : (i 1 : Nat) = o' + l) :
    (Rect.unit (s := ⟨2, ![R, C]⟩) ![o, o'] ![h, w] inb).emb (ix2 k l) = i :=
  funext fun a => Fin.ext (by
    refine (Rect.idx_unit_val (s := ⟨2, ![R, C]⟩) ![o, o'] ![h, w] inb (ix2 k l) a).trans ?_
    match a with
    | ⟨0, _⟩ => exact h0.symm
    | ⟨1, _⟩ => exact h1.symm)

/-! ## The first-layer cache -/

/-- A column of the left half of the cache, as a column of the cache. -/
abbrev left (j : Fin 256) : Fin 512 := ⟨j.val, by omega⟩
/-- A column of the right half of the cache, as a column of the cache. -/
abbrev right (j : Fin 256) : Fin 512 := ⟨256 + j.val, by omega⟩

section
variable (a b : Vec Ideal S512x256 .f32)

/-- The cache as one function: the left matrix in columns below 256, the right one from there on. -/
def beside (y : S512x512.Idx) : EReal :=
  if h : (y 1).val < 256 then a (ix2 (y 0) ⟨(y 1).val, h⟩)
  else b (ix2 (y 0) ⟨(y 1).val - 256, by have : (y 1).val < 512 := (y 1).isLt; omega⟩)

/-- Its left half is the first matrix. -/
theorem beside_left (k : Fin 512) (j : Fin 256) : beside a b (ix2 k (left j)) = a (ix2 k j) := dif_pos j.isLt

/-- Its right half is the second one. -/
theorem beside_right (k : Fin 512) (j : Fin 256) : beside a b (ix2 k (right j)) = b (ix2 k j) :=
  (dif_neg (by show ¬256 + j.val < 256; omega)).trans
    (congrArg b (congrArg (ix2 k) (Fin.ext (by show 256 + j.val - 256 = j.val; omega))))

/-- The cache after its two stores is that function. -/
theorem firstLayer_eq : firstLayer a b = beside a b := by
  funext y
  refine View.canon_apply_of_pieces (beside a b) (firstPieces a b) ?_ y (first_cover a b y)
  intro p hp
  simp only [List.mem_cons, List.not_mem_nil, or_false] at hp
  rcases hp with rfl | rfl
  · change ∀ j : (⟨2, ![512, 256]⟩ : Shape).Idx, _
    intro j
    obtain ⟨k, l, rfl⟩ : ∃ k l, j = ix2 k l := ⟨_, _, ValueIdx.eq_ix2 j⟩
    refine Eq.trans ?_ ((beside_right a b k l).symm.trans (congrArg (beside a b) ?_))
    · exact congrFun (shapeCast_self (truncf (F := Ideal) .bf16 b bitsLt_bf16_f32) shapeCasts_S512x256_S512x256) (ix2 k l)
    · exact (unit_emb inb_S512x512_S512x256_0_256 k l _ (Nat.zero_add _).symm rfl).symm
  · change ∀ j : (⟨2, ![512, 256]⟩ : Shape).Idx, _
    intro j
    obtain ⟨k, l, rfl⟩ : ∃ k l, j = ix2 k l := ⟨_, _, ValueIdx.eq_ix2 j⟩
    refine Eq.trans ?_ ((beside_left a b k l).symm.trans (congrArg (beside a b) ?_))
    · exact congrFun (shapeCast_self (truncf (F := Ideal) .bf16 a bitsLt_bf16_f32) shapeCasts_S512x256_S512x256) (ix2 k l)
    · exact (unit_emb inb_S512x512_S512x256_0_0 k l _ (Nat.zero_add _).symm (Nat.zero_add _).symm).symm

/-- Its left half is the first matrix. -/
theorem firstLayer_left (k : Fin 512) (j : Fin 256) : firstLayer a b (ix2 k (left j)) = a (ix2 k j) := by
  rw [firstLayer_eq, beside_left]

/-- Its right half is the second one. -/
theorem firstLayer_right (k : Fin 512) (j : Fin 256) : firstLayer a b (ix2 k (right j)) = b (ix2 k j) := by
  rw [firstLayer_eq, beside_right]
end

/-! ## One chunk of 4096 rows -/

section
variable (x : Vec Ideal S4096x512 .f32) (a b : Vec Ideal S512x256 .f32) (p q : Vec Ideal S256x128 .f32)
  (n : Vec Ideal S4096x128 .f32) (r : Fin 4096) (d : Fin 128)

/-- The chunk's means. -/
theorem mean_apply : k0_pay7 x (firstLayer a b) (k0_pay4 p) (ix2 r d) = head (row x r) (mat a) (mat p) d := by
  pointwise [k0_pay7, k0_pay6, k0_pay4]
  exact Finset.sum_congr rfl fun j _ => congrArg (max · 0 * p (ix2 j d))
    (Finset.sum_congr rfl fun k _ => congrArg (x (ix2 r k) * ·) (firstLayer_left a b k j))

/-- The chunk's log-variances. -/
theorem spread_apply : k0_pay8 x (firstLayer a b) (k0_pay5 q) (ix2 r d) = head (row x r) (mat b) (mat q) d := by
  pointwise [k0_pay8, k0_pay6, k0_pay5]
  exact Finset.sum_congr rfl fun j _ => congrArg (max · 0 * q (ix2 j d))
    (Finset.sum_congr rfl fun k _ => congrArg (x (ix2 r k) * ·) (firstLayer_right a b k j))

/-- The chunk's samples. -/
theorem sample_apply : k0_pay10 x (firstLayer a b) (k0_pay4 p) (k0_pay5 q) n (ix2 r d)
    = sample (n (ix2 r d)) (head (row x r) (mat a) (mat p) d) (head (row x r) (mat b) (mat q) d) := by
  rw [← mean_apply x a b p, ← spread_apply x a b q]
  pointwise [k0_pay10, k0_pay9, sample]

/-- The running loss after the chunk. -/
theorem loss_apply (l : Elt Ideal .f32) : k0_pay12 l (k0_pay11 x (firstLayer a b) (k0_pay4 p) (k0_pay5 q))
    = l + ∑ r, ∑ d, term (head (row x r) (mat a) (mat p) d) (head (row x r) (mat b) (mat q) d) := by
  simp only [← mean_apply x a b p, ← spread_apply x a b q]
  pointwise [k0_pay12, k0_pay11, k0_pay9, term]

/-- The second chunk's samples are written with the same operations as the first's. -/
theorem pay17_eq (w : Vec Ideal S512x512 .bf16) (wm ws : Vec Ideal S256x128 .bf16) : k0_pay17 x w wm ws n = k0_pay10 x w wm ws n := rfl

/-- So is its contribution to the running loss. -/
theorem pay18_eq (w : Vec Ideal S512x512 .bf16) (wm ws : Vec Ideal S256x128 .bf16) (l : Elt Ideal .f32) :
    k0_pay18 x w wm ws l = k0_pay12 l (k0_pay11 x w wm ws) := rfl
end

/-! ## One grid point: two chunks -/

section
variable (x : Vec Ideal S8192x512 .f32) (a b : Vec Ideal S512x256 .f32) (p q : Vec Ideal S256x128 .f32) (n : Vec Ideal S8192x128 .f32)

/-- Row `r` of the first half. -/
abbrev top (r : Fin 4096) : Fin 8192 := ⟨r.val, by omega⟩
/-- Row `r` of the second half. -/
abbrev bottom (r : Fin 4096) : Fin 8192 := ⟨4096 + r.val, by omega⟩

/-- The first half's rows are the block's. -/
theorem loX_apply (r : Fin 4096) (k : Fin 512) : loX x (ix2 r k) = x (ix2 (top r) k) :=
  View.ld_unit_apply_of _ _ _ _ _ _ fun a => by
    match a with
    | ⟨0, _⟩ => exact (Nat.zero_add _).symm
    | ⟨1, _⟩ => exact (Nat.zero_add _).symm
/-- The second half's rows are the block's, 4096 rows on. -/
theorem hiX_apply (r : Fin 4096) (k : Fin 512) : hiX x (ix2 r k) = x (ix2 (bottom r) k) :=
  View.ld_unit_apply_of _ _ _ _ _ _ fun a => by
    match a with
    | ⟨0, _⟩ => rfl
    | ⟨1, _⟩ => exact (Nat.zero_add _).symm

/-- The first half's rows of noise are the block's. -/
theorem loN_apply (r : Fin 4096) (k : Fin 128) : loN n (ix2 r k) = n (ix2 (top r) k) :=
  View.ld_unit_apply_of _ _ _ _ _ _ fun a => by
    match a with
    | ⟨0, _⟩ => exact (Nat.zero_add _).symm
    | ⟨1, _⟩ => exact (Nat.zero_add _).symm
/-- The second half's rows of noise are the block's, 4096 rows on. -/
theorem hiN_apply (r : Fin 4096) (k : Fin 128) : hiN n (ix2 r k) = n (ix2 (bottom r) k) :=
  View.ld_unit_apply_of _ _ _ _ _ _ fun a => by
    match a with
    | ⟨0, _⟩ => rfl
    | ⟨1, _⟩ => exact (Nat.zero_add _).symm

/-- The block of samples, entry by entry. -/
def samples (y : S8192x128.Idx) : EReal :=
  sample (n y) (head (row x (y 0)) (mat a) (mat p) (y 1)) (head (row x (y 0)) (mat b) (mat q) (y 1))

/-- A point leaves that block. -/
theorem sampleBlock_eq : sampleBlock x n (firstLayer a b) (k0_pay4 p) (k0_pay5 q) = samples x a b p q n := by
  funext y
  refine View.canon_apply_of_pieces (samples x a b p q n) (samplePieces x n (firstLayer a b) (k0_pay4 p) (k0_pay5 q)) ?_ y
    (sample_cover x n _ _ _ y)
  intro pc hp
  simp only [List.mem_cons, List.not_mem_nil, or_false] at hp
  rcases hp with rfl | rfl
  · change ∀ j : (⟨2, ![4096, 128]⟩ : Shape).Idx, _
    intro j
    obtain ⟨k, l, rfl⟩ : ∃ k l, j = ix2 k l := ⟨_, _, ValueIdx.eq_ix2 j⟩
    refine Eq.trans ?_ (congrArg (samples x a b p q n) (unit_emb inb_S8192x128_S4096x128_4096_0 k l (ix2 (bottom k) l) rfl (Nat.zero_add _).symm).symm)
    refine (congrFun (pay17_eq _ _ _ _ _) _).trans ((sample_apply _ _ _ _ _ _ _ _).trans ?_)
    rw [show row (hiX x) k = row x (bottom k) from funext (hiX_apply x k), hiN_apply]
    rfl
  · change ∀ j : (⟨2, ![4096, 128]⟩ : Shape).Idx, _
    intro j
    obtain ⟨k, l, rfl⟩ : ∃ k l, j = ix2 k l := ⟨_, _, ValueIdx.eq_ix2 j⟩
    refine Eq.trans ?_ (congrArg (samples x a b p q n) (unit_emb inb_S8192x128_S4096x128_0_0 k l (ix2 (top k) l) (Nat.zero_add _).symm (Nat.zero_add _).symm).symm)
    refine (sample_apply _ _ _ _ _ _ _ _).trans ?_
    rw [show row (loX x) k = row x (top k) from funext (loX_apply x k), loN_apply]
    rfl

/-- A point adds the terms of its 8192 rows to the running loss. -/
theorem lossStep_eq (l : Elt Ideal .f32) : lossStep x (firstLayer a b) (k0_pay4 p) (k0_pay5 q) l
    = l + ∑ r, ∑ d, term (head (row x r) (mat a) (mat p) d) (head (row x r) (mat b) (mat q) d) := by
  unfold lossStep
  rw [pay18_eq, loss_apply, loss_apply, add_assoc]
  refine congrArg (l + ·) (Eq.trans ?_ (Fin.sum_univ_add (a := 4096) (b := 4096) _).symm)
  refine congrArg₂ (· + ·) (Finset.sum_congr rfl fun r _ => ?_) (Finset.sum_congr rfl fun r _ => ?_)
  · rw [show row (loX x) r = row x (top r) from funext (loX_apply x r)]; rfl
  · rw [show row (hiX x) r = row x (bottom r) from funext (hiX_apply x r)]; rfl
end

end Cert.KernelIdeal.Chunk

end
-- ==== Proof.Grid.lean ====
/-
  The four grid points in turn: what the buffers hold after each, by induction on the point, and so what the two result
  arrays hold after the run, over the extended reals.
-/
module

public import proofs.«01_k».proof.Proof.Chunk

@[expose] public section

noncomputable section

namespace Cert.KernelIdeal.Grid

open Cert.KernelIdeal Cert.KernelIdeal.Gen Cert.KernelIdeal.Block Cert.KernelIdeal.Chunk Cert.Model
open Idealize.ShloMosaic Idealize.ShloMosaic.TcCoe Idealize.SL.Sem
open scoped BigOperators

variable (m : (ℓ : Loc nD τ sig) → Buf (Elt Ideal) ℓ) (ρ : Dev nD → PrngReg) (c : Dev nD)

/-! ## The arguments -/

/-- The rows. -/
abbrev X : Vec Ideal S32768x512 .f32 := m ((c : Thread nD τ).loc main_arg0)
/-- The noise. -/
abbrev Z : Vec Ideal S32768x128 .f32 := m ((c : Thread nD τ).loc main_arg1)
/-- The first weights of the mean. -/
abbrev A : Vec Ideal S512x256 .f32 := m ((c : Thread nD τ).loc main_arg2)
/-- The second weights of the mean. -/
abbrev P : Vec Ideal S256x128 .f32 := m ((c : Thread nD τ).loc main_arg4)
/-- The first weights of the log-variance. -/
abbrev B : Vec Ideal S512x256 .f32 := m ((c : Thread nD τ).loc main_arg6)
/-- The second weights of the log-variance. -/
abbrev Q : Vec Ideal S256x128 .f32 := m ((c : Thread nD τ).loc main_arg8)

/-- The mean of entry `(r, d)`. -/
def mean (r : Fin 32768) (d : Fin 128) : EReal := head (row (X m c) r) (mat (A m c)) (mat (P m c)) d
/-- The log-variance of entry `(r, d)`. -/
def spread (r : Fin 32768) (d : Fin 128) : EReal := head (row (X m c) r) (mat (B m c)) (mat (Q m c)) d

/-! ## The blocks the windows stage -/

/-- The block of rows moves with the point. -/
theorem idx0 : ∀ t : Fin cfg0.N, (cfg0.win 0).index t = ![t.val, 0] := by decide +kernel
/-- So does the block of noise. -/
theorem idx1 : ∀ t : Fin cfg0.N, (cfg0.win 1).index t = ![t.val, 0] := by decide +kernel
/-- The first weights of the mean do not move. -/
theorem idx2 : ∀ t : Fin cfg0.N, (cfg0.win 2).index t = ![0, 0] := by decide +kernel
/-- The second weights of the mean do not move. -/
theorem idx3 : ∀ t : Fin cfg0.N, (cfg0.win 3).index t = ![0, 0] := by decide +kernel
/-- The first weights of the log-variance do not move. -/
theorem idx4 : ∀ t : Fin cfg0.N, (cfg0.win 4).index t = ![0, 0] := by decide +kernel
/-- The second weights of the log-variance do not move. -/
theorem idx5 : ∀ t : Fin cfg0.N, (cfg0.win 5).index t = ![0, 0] := by decide +kernel
/-- The block of samples moves with the point. -/
theorem idx6 : ∀ t : Fin cfg0.N, (cfg0.win 6).index t = ![t.val, 0] := by decide +kernel

/-- Row `r` of point `t`'s block, as a row of the array. -/
abbrev arrRow (t : Fin cfg0.N) (r : Fin 8192) : Fin 32768 :=
  ⟨8192 * t.val + r.val, by have : t.val < 4 := lt_of_lt_of_eq t.isLt N_0; omega⟩

/-- Point `t`'s block of rows. -/
theorem rows_apply (t : Fin cfg0.N) (r : Fin 8192) (k : Fin 512) : iblk m c 0 t (ix2 r k) = X m c (ix2 (arrRow t r) k) := by
  blk_ext! [iblk, V, idx0 t]
/-- Point `t`'s block of noise. -/
theorem noise_apply (t : Fin cfg0.N) (r : Fin 8192) (k : Fin 128) : iblk m c 1 t (ix2 r k) = Z m c (ix2 (arrRow t r) k) := by
  blk_ext! [iblk, V, idx1 t]
/-- The first weights of the mean are staged whole. -/
theorem A_eq (t : Fin cfg0.N) : iblk m c 2 t = A m c := by blk_ext! [iblk, V, idx2 t]
/-- The second weights of the mean are staged whole. -/
theorem P_eq (t : Fin cfg0.N) : iblk m c 3 t = P m c := by blk_ext! [iblk, V, idx3 t]
/-- The first weights of the log-variance are staged whole. -/
theorem B_eq (t : Fin cfg0.N) : iblk m c 4 t = B m c := by blk_ext! [iblk, V, idx4 t]
/-- The second weights of the log-variance are staged whole. -/
theorem Q_eq (t : Fin cfg0.N) : iblk m c 5 t = Q m c := by blk_ext! [iblk, V, idx5 t]

/-! ## What the buffers hold after each point -/

/-- The loss terms of point `t`'s 8192 rows, summed. -/
def points (t : Fin cfg0.N) : EReal := ∑ r : Fin 8192, ∑ d : Fin 128, term (mean m c (arrRow t r) d) (spread m c (arrRow t r) d)

/-- The running loss after point `n`. -/
def running : (n : ℕ) → n < cfg0.N → EReal
  | 0, h => Ideal.ofBits .f32 0x00000000#32 + points m c ⟨0, h⟩
  | n + 1, h => running n (Nat.lt_of_succ_lt h) + points m c ⟨n + 1, h⟩

/-- The samples of point `t`'s rows. -/
def drawn (t : Fin cfg0.N) (y : S8192x128.Idx) : EReal :=
  sample (Z m c (ix2 (arrRow t (y 0)) (y 1))) (mean m c (arrRow t (y 0)) (y 1)) (spread m c (arrRow t (y 0)) (y 1))

/-- What the loss cell holds after point `n`: the running loss, finished at the last point. -/
def lossCell (n : ℕ) (h : n < cfg0.N) : Vec Ideal S1 .f32 :=
  fun _ => if n % 4 = 3 then k0_pay1 (F := Ideal) (running m c n h) else running m c n h

/-- What all buffers hold after point `n`: the samples, the loss cell, and the three weight caches. -/
def state (n : ℕ) (h : n < cfg0.N) :
    Vec Ideal S8192x128 .f32 × Vec Ideal S1 .f32 × Vec Ideal S512x512 .bf16 × Vec Ideal S256x128 .bf16 × Vec Ideal S256x128 .bf16 :=
  (drawn m c ⟨n, h⟩, lossCell m c n h, firstLayer (A m c) (B m c), k0_pay4 (P m c), k0_pay5 (Q m c))

/-- A row of point `t`'s block is a row of the array. -/
theorem row_block (t : Fin cfg0.N) (r : Fin 8192) : row (iblk m c 0 t : Vec Ideal S8192x512 .f32) r = row (X m c) (arrRow t r) :=
  funext (rows_apply m c t r)

/-- The block of samples of point `t`. -/
theorem samples_eq (t : Fin cfg0.N) : samples (iblk m c 0 t) (A m c) (B m c) (P m c) (Q m c) (iblk m c 1 t) = drawn m c t := by
  funext y
  obtain ⟨r, d, rfl⟩ : ∃ r d, y = ix2 r d := ⟨_, _, ValueIdx.eq_ix2 y⟩
  show sample (iblk m c 1 t (ix2 r d)) (head (row (iblk m c 0 t : Vec Ideal S8192x512 .f32) r) _ _ d)
    (head (row (iblk m c 0 t : Vec Ideal S8192x512 .f32) r) _ _ d) = _
  rw [row_block, noise_apply]
  rfl

/-- What point `t` adds to the running loss. -/
theorem step_eq (t : Fin cfg0.N) (l : EReal) :
    lossStep (F := Ideal) (iblk m c 0 t) (firstLayer (A m c) (B m c)) (k0_pay4 (P m c)) (k0_pay5 (Q m c)) l = l + points m c t := by
  rw [lossStep_eq]
  simp only [row_block]
  rfl

/-- The buffers after each point hold what `state` says: by induction on the point. -/
theorem outs_eq : ∀ (n : ℕ) (h : n < cfg0.N), outsAt0 m c n h = state m c n h
  | 0, h => by
    rw [outsAt0_A m c ⟨0, h⟩ rfl rfl (by simp), out_A_6, out_A_7, scratch_A_0, scratch_A_1, scratch_A_2,
      A_eq, B_eq, P_eq, Q_eq, sampleBlock_eq, samples_eq, step_eq]
    rfl
  | n + 1, h => by
    have hN : cfg0.N = 4 := N_0
    have hn : n < cfg0.N := Nat.lt_of_succ_lt h
    have hn3 : ¬n % 4 = 3 := by omega
    have h0 : ¬(⟨n + 1, h⟩ : Fin cfg0.N).val % 4 = 0 := by dsimp only; omega
    have ih : outsAt0 m c n hn = state m c n hn := outs_eq n hn
    by_cases h3 : (⟨n + 1, h⟩ : Fin cfg0.N).val % 4 = 3
    · rw [outsAt0_C m c ⟨n + 1, h⟩ h0 h0 h3, out_C_6, out_C_7]
      show (sampleBlock (iblk m c 0 ⟨n + 1, h⟩) (iblk m c 1 ⟨n + 1, h⟩) (outsAt0 m c n hn).2.2.1 (outsAt0 m c n hn).2.2.2.1 (outsAt0 m c n hn).2.2.2.2,
        (fun _ => k0_pay1 (F := Ideal) (lossStep (F := Ideal) (iblk m c 0 ⟨n + 1, h⟩) (outsAt0 m c n hn).2.2.1 (outsAt0 m c n hn).2.2.2.1 (outsAt0 m c n hn).2.2.2.2 ((outsAt0 m c n hn).2.1 (ValueIdx.ix1 0)))),
        (outsAt0 m c n hn).2.2.1, (outsAt0 m c n hn).2.2.2.1, (outsAt0 m c n hn).2.2.2.2) = _
      rw [ih]
      dsimp only [state]
      rw [sampleBlock_eq, samples_eq, step_eq, show lossCell m c n hn (ValueIdx.ix1 0) = running m c n hn from if_neg hn3]
      exact congrArg (fun l => (drawn m c ⟨n + 1, h⟩, l, firstLayer (A m c) (B m c), k0_pay4 (P m c), k0_pay5 (Q m c)))
        (funext fun _ => (if_pos h3).symm)
    · rw [outsAt0_B m c ⟨n + 1, h⟩ h0 h0 h3, out_B_6, out_B_7]
      show (sampleBlock (iblk m c 0 ⟨n + 1, h⟩) (iblk m c 1 ⟨n + 1, h⟩) (outsAt0 m c n hn).2.2.1 (outsAt0 m c n hn).2.2.2.1 (outsAt0 m c n hn).2.2.2.2,
        (fun _ => lossStep (F := Ideal) (iblk m c 0 ⟨n + 1, h⟩) (outsAt0 m c n hn).2.2.1 (outsAt0 m c n hn).2.2.2.1 (outsAt0 m c n hn).2.2.2.2 ((outsAt0 m c n hn).2.1 (ValueIdx.ix1 0))),
        (outsAt0 m c n hn).2.2.1, (outsAt0 m c n hn).2.2.2.1, (outsAt0 m c n hn).2.2.2.2) = _
      rw [ih]
      dsimp only [state]
      rw [sampleBlock_eq, samples_eq, step_eq, show lossCell m c n hn (ValueIdx.ix1 0) = running m c n hn from if_neg hn3]
      exact congrArg (fun l => (drawn m c ⟨n + 1, h⟩, l, firstLayer (A m c) (B m c), k0_pay4 (P m c), k0_pay5 (Q m c)))
        (funext fun _ => (if_neg h3).symm)

end Cert.KernelIdeal.Grid

end
-- ==== Proof.Final.lean ====
/-
  What the two result arrays of the kernel hold after the run, over the extended reals.
-/
module

public import proofs.«01_k».proof.Proof.Grid

@[expose] public section

noncomputable section

namespace Cert.KernelIdeal.Final

open Cert.KernelIdeal Cert.KernelIdeal.Gen Cert.KernelIdeal.Value Cert.KernelIdeal.Chunk Cert.KernelIdeal.Grid Cert.Model
open Idealize.ShloMosaic Idealize.ShloMosaic.TcCoe Idealize.SL.Sem
open scoped BigOperators

variable (m : (ℓ : Loc nD τ sig) → Buf (Elt Ideal) ℓ) (c : Dev nD)

/-- The samples: every entry drawn from its own mean and log-variance. -/
def samplesOut : Vec Ideal S32768x128 .f32 :=
  fun y => sample (Z m c (ix2 (y 0) (y 1))) (mean m c (y 0) (y 1)) (spread m c (y 0) (y 1))

/-- The loss of all entries. -/
def lossOut : Vec Ideal S1 .f32 := fun _ => loss (mean m c) (spread m c)

/-- Point `t`'s block puts its row `r` at the array's row. -/
theorem emb6 (t : Fin cfg0.N) (y : S8192x128.Idx) :
    ((cfg0.win 6).blk t).view.emb y = (ix2 (arrRow t (y 0)) (y 1) : S32768x128.Idx) := by
  blk_ext! [idx6 t]

/-- The first result array after the run: the samples. -/
theorem samples_final : (dats m 0 c).arrAt 6 cfg0.N = samplesOut m c := by
  refine (dats m 0 c).arrAt_eq_of_covers 6 (samplesOut m c) (by decide +kernel) fun t _ y => ?_
  blk_simp
  rw [after0_6, outs_eq, emb6]
  rfl

/-- The four points' partial sums make the sum over all rows. -/
theorem running_last (h : 3 < cfg0.N) :
    running m c 3 h = ∑ r, ∑ d, term (mean m c r d) (spread m c r d) := by
  have e : ∑ s : Fin 4, points m c ⟨s.val, lt_of_lt_of_eq s.isLt N_0.symm⟩
      = ∑ r, ∑ d, term (mean m c r d) (spread m c r d) := by
    refine Fin.sum_mul_add_congr fun s r hl => ?_
    simp only [arrRow, mul_comm]
  rw [← e, Fin.sum_univ_four]
  simp only [running, Ideal.ofBits_zero_f32, zero_add]
  rfl

/-- After the last point the loss cell holds the loss. -/
theorem lossCell_last (n : ℕ) (h : n < cfg0.N) (e : n = 3) : lossCell m c n h = lossOut m c := by
  subst e
  funext y
  show k0_pay1 (F := Ideal) (running m c 3 h) = loss (mean m c) (spread m c)
  rw [running_last]
  rfl

/-- The second result array after the run: the loss. -/
theorem loss_final : (dats m 0 c).arrAt 7 cfg0.N = lossOut m c := by
  refine (dats m 0 c).arrAt_eq_of_covers 7 (lossOut m c) (by decide +kernel) fun t hf y => ?_
  have ht : t.val % 4 = 3 := (flush0_7 t).mp hf
  have hlt : t.val < 4 := lt_of_lt_of_eq t.isLt N_0
  blk_simp
  rw [after0_7, outs_eq]
  exact congrFun (lossCell_last m c t.val t.isLt (by omega)) y

end Cert.KernelIdeal.Final

end
-- ==== Proof.Ref.lean ====
/-
  The reference's two results, read entry by entry over the extended reals, where the biases are zero: they are the
  samples and the loss of `Model`.
-/
module

public import proofs.«01_k».proof.Proof.Gen.ReferenceIdeal.Run
public import proofs.«01_k».proof.Proof.Model

@[expose] public section

noncomputable section

namespace Cert.ReferenceIdeal.Ref

open Cert.ReferenceIdeal Cert.ReferenceIdeal.Gen Cert.Model Idealize.ShloMosaic
open scoped BigOperators

/-- The reference's first layer: product, bias, cut-off at zero. -/
def refHidden (x : FVec Ideal S32768x512 .f32) (W : FVec Ideal S512x256 .f32) (b : FVec Ideal S256 .f32) : FVec Ideal S32768x256 .f32 :=
  maximumf (addf (Host.dotGeneral dot_S32768x512_S512x256_S32768x256_1_0_0_1_n_n none x W)
      (broadcastInDim S32768x256 ![0, 1] bcast_S1x256_S32768x256_0_1 (broadcastInDim S1x256 ![1] bcast_S256_S1x256_1 b)))
    (broadcastInDim S32768x256 ![] bcast_S_S32768x256 (constant S_ .f32 0x00000000#32))

/-- The reference's network: the first layer, then product and bias. -/
def refHead (x : FVec Ideal S32768x512 .f32) (W : FVec Ideal S512x256 .f32) (b : FVec Ideal S256 .f32) (V : FVec Ideal S256x128 .f32)
    (e : FVec Ideal S128 .f32) : FVec Ideal S32768x128 .f32 :=
  addf (Host.dotGeneral dot_S32768x256_S256x128_S32768x128_1_0_0_1_n_n none (refHidden x W b) V)
    (broadcastInDim S32768x128 ![0, 1] bcast_S1x128_S32768x128_0_1 (broadcastInDim S1x128 ![1] bcast_S128_S1x128_1 e))

/-- The reference's samples of a mean and a log-variance. -/
def refSamples (n μ σ : FVec Ideal S32768x128 .f32) : FVec Ideal S32768x128 .f32 :=
  addf (mulf n (Host.exp (Host.divf σ (broadcastInDim S32768x128 ![] bcast_S_S32768x128 (constant S_ .f32 0x40000000#32))))) μ

/-- The reference's loss of a mean and a log-variance. -/
def refLoss (μ σ : FVec Ideal S32768x128 .f32) : FVec Ideal S1 .f32 :=
  shapeCast S1 (mulf (constant S_ .f32 0xBF000000#32)
    (Host.reduceAdd (subf (subf (addf (broadcastInDim S32768x128 ![] bcast_S_S32768x128 (constant S_ .f32 0x3F800000#32)) σ)
      (mulf μ μ)) (Host.exp σ)) (constant S_ .f32 0x00000000#32) reducesTo_S32768x128_S_d0_1 h_S_)) shapeCasts_S_S1

variable (x : FVec Ideal S32768x512 .f32) (W : FVec Ideal S512x256 .f32) (b : FVec Ideal S256 .f32) (V : FVec Ideal S256x128 .f32)
  (e : FVec Ideal S128 .f32)

/-- A hidden unit of the reference, its bias zero. -/
theorem refHidden_apply (hb : ∀ y, b y = 0) (r : Fin 32768) (j : Fin 256) :
    refHidden x W b (ix2 r j) = Model.hidden (row x r) (mat W) j := by
  pointwise [refHidden, Model.hidden]
  rw [hb, add_zero]

/-- An output of the reference's network, its biases zero. -/
theorem refHead_apply (hb : ∀ y, b y = 0) (he : ∀ y, e y = 0) (r : Fin 32768) (d : Fin 128) :
    refHead x W b V e (ix2 r d) = head (row x r) (mat W) (mat V) d := by
  pointwise [refHead]
  rw [he, add_zero]
  exact Finset.sum_congr rfl fun j _ => congrArg (· * V (ix2 j d)) (refHidden_apply x W b hb r j)

/-- The reference's samples, entry by entry. -/
theorem refSamples_apply (n μ σ : FVec Ideal S32768x128 .f32) (r : Fin 32768) (d : Fin 128) :
    refSamples n μ σ (ix2 r d) = sample (n (ix2 r d)) (μ (ix2 r d)) (σ (ix2 r d)) := by
  pointwise [refSamples]
  rw [div_two]
  rfl

/-- The reference's loss. -/
theorem refLoss_apply (μ σ : FVec Ideal S32768x128 .f32) (y : S1.Idx) :
    refLoss μ σ y = loss (fun r d => μ (ix2 r d)) (fun r d => σ (ix2 r d)) := by
  rw [← loss_eq]
  pointwise [refLoss]

end Cert.ReferenceIdeal.Ref

end
-- ==== Proof.Equation.lean ====
/-
  The equation between the two programs: what the precondition says of the biases, and, under it, that the reference's
  two results of the kernel's arguments are the kernel's two results.
-/
module

public import proofs.«01_k».proof.Proof.Final
public import proofs.«01_k».proof.Proof.Ref
public import proofs.«01_k».proof.Proof.Gen.Pre_zero_biases
public import proofs.«01_k».proof.Defs

@[expose] public section

noncomputable section

namespace Cert.Equation

open Cert.KernelIdeal Cert.KernelIdeal.Grid Cert.KernelIdeal.Final Cert.ReferenceIdeal.Ref Cert.Model
open Idealize.ShloMosaic Idealize.ShloMosaic.TcCoe Idealize.SL.Sem

/-- An array that compares equal to zero everywhere is zero everywhere. -/
theorem zero_of_cmp {s : Shape} (b z : FVec Ideal s .f32) (hz : ∀ y, z y = 0) (h : cmpf .oeq b z = fun _ => 1#1) (y : s.Idx) :
    b y = 0 := by
  have e : Ideal.cmp .oeq (b y) (z y) = 1#1 := congrFun h y
  rw [← hz y]
  by_contra hne
  simp [Ideal.cmp, hne] at e

variable (m : (ℓ : Loc nD τ sig) → Buf (Elt Ideal) ℓ) (c : Dev nD)

/-- The first bias of the mean. -/
abbrev biasA : FVec Ideal S256 .f32 := m ((c : Thread nD τ).loc main_arg3)
/-- The second bias of the mean. -/
abbrev biasP : FVec Ideal S128 .f32 := m ((c : Thread nD τ).loc main_arg5)
/-- The first bias of the log-variance. -/
abbrev biasB : FVec Ideal S256 .f32 := m ((c : Thread nD τ).loc main_arg7)
/-- The second bias of the log-variance. -/
abbrev biasQ : FVec Ideal S128 .f32 := m ((c : Thread nD τ).loc main_arg9)

/-- The precondition says that every entry of the four biases is zero. -/
theorem biases_zero (h : Cert.Pre_KernelIdeal_zero_biases m) :
    (∀ y, biasA m c y = 0) ∧ (∀ y, biasP m c y = 0) ∧ (∀ y, biasB m c y = 0) ∧ (∀ y, biasQ m c y = 0) :=
  have z256 : ∀ y, broadcastInDim Cert.Pre_zero_biases.S256 ![] Cert.Pre_zero_biases.Gen.bcast_S_S256
      (constant (F := Ideal) Cert.Pre_zero_biases.S_ .f32 0x00000000#32) y = 0 := fun _ => Ideal.ofBits_zero_f32
  have z128 : ∀ y, broadcastInDim Cert.Pre_zero_biases.S128 ![] Cert.Pre_zero_biases.Gen.bcast_S_S128
      (constant (F := Ideal) Cert.Pre_zero_biases.S_ .f32 0x00000000#32) y = 0 := fun _ => Ideal.ofBits_zero_f32
  ⟨zero_of_cmp _ _ z256 (h c).1, zero_of_cmp _ _ z128 (h c).2.1, zero_of_cmp _ _ z256 (h c).2.2.1,
    zero_of_cmp _ _ z128 (h c).2.2.2⟩

/-- The reference's mean of the kernel's arguments. -/
abbrev refMean : FVec Ideal S32768x128 .f32 := refHead (X m c) (A m c) (biasA m c) (P m c) (biasP m c)
/-- The reference's log-variance of the kernel's arguments. -/
abbrev refSpread : FVec Ideal S32768x128 .f32 := refHead (X m c) (B m c) (biasB m c) (Q m c) (biasQ m c)

variable (h : Cert.Pre_KernelIdeal_zero_biases m)
include h

/-- Under the precondition the reference's mean is the kernel's. -/
theorem mean_agrees (r : Fin 32768) (d : Fin 128) : refMean m c (ix2 r d) = mean m c r d :=
  have z := biases_zero m c h
  refHead_apply _ _ _ _ _ z.1 z.2.1 r d

/-- Under the precondition the reference's log-variance is the kernel's. -/
theorem spread_agrees (r : Fin 32768) (d : Fin 128) : refSpread m c (ix2 r d) = spread m c r d :=
  have z := biases_zero m c h
  refHead_apply _ _ _ _ _ z.2.2.1 z.2.2.2 r d

/-- Under the precondition the reference's samples are the kernel's. -/
theorem samples_agree : refSamples (Z m c) (refMean m c) (refSpread m c) = samplesOut m c := by
  funext y
  obtain ⟨r, d, rfl⟩ : ∃ r d, y = ix2 r d := ⟨_, _, ValueIdx.eq_ix2 y⟩
  rw [refSamples_apply, mean_agrees m c h, spread_agrees m c h]
  rfl

/-- Under the precondition the reference's loss is the kernel's. -/
theorem loss_agrees : refLoss (refMean m c) (refSpread m c) = lossOut m c := by
  funext y
  rw [refLoss_apply]
  simp only [mean_agrees m c h, spread_agrees m c h]
  rfl

end Cert.Equation

end
-- ==== Proof.lean ====
/-
  The proof of `Cert.Claim`: the frames of the kernel at the bit-exact and at the ideal instance and of the reference,
  the (empty) list of rewrites, and the equality of the kernel's and the reference's results over the extended reals where
  the biases are zero.
-/
module

public import proofs.«01_k».proof.Proof.Equation
public import proofs.«01_k».proof.Proof.Gen.KernelIdeal.Value
public import proofs.«01_k».proof.Proof.Gen.ReferenceIdeal.Run
public import proofs.«01_k».proof.Proof.Gen.Pre_zero_biases
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem
open Cert.KernelIdeal.Final Cert.Equation

/-- The kernel's run, on bits, ends with its arguments unchanged and every counter at zero. -/
theorem frame_kernel : Cert.quiescent_Kernel := fun m ρ _ => Cert.Kernel.Gen.frame m ρ

/-- So does its run over the extended reals. -/
theorem frame_ideal : Cert.quiescent_KernelIdeal := fun m ρ _ => Cert.KernelIdeal.Gen.frame m ρ

/-- And so under the precondition. -/
theorem frame_ideal_pre : Cert.quiescent_KernelIdeal_pre_zero_biases := fun m ρ _ => Cert.KernelIdeal.Gen.frame m ρ

/-- The reference's run over the extended reals ends with its arguments unchanged; it has no counter. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- And so under the precondition. -/
theorem frame_reference_pre : Cert.quiescent_ReferenceIdeal_pre_zero_biases := fun m ρ _ => frame_reference m ρ trivial

/-- No operation was rewritten. -/
theorem preserves : Cert.preserves_Kernel_KernelIdeal := trivial

/-- The kernel and the reference, from the same arguments with zero biases, end with the same samples and the same loss. -/
theorem algebraic : Cert.algebraic_KernelIdeal_ReferenceIdeal_pre_zero_biases := by
  intro m ρ m' ρ' hpre hag
  refine ⟨fun c => samplesOut m c, fun c => lossOut m c, ?_, ?_⟩
  · exact (θ_run Cert.KernelIdeal.defs _ _).mono
      (fun _ h c => ⟨(h c).1.trans (samples_final m c), (h c).2.1.trans (loss_final m c), (h c).2.2⟩)
      (Cert.KernelIdeal.Value.run_blocks m ρ)
  · refine (θ_run Cert.ReferenceIdeal.defs _ _).mono (fun _ h c => ?_) (Cert.ReferenceIdeal.Value.run m' ρ')
    obtain ⟨hs, hl, hargs⟩ := h c
    obtain ⟨e0, e1, e2, e3, e4, e5, e6, e7, e8, e9⟩ := hag c
    rw [e0, e1, e2, e3, e4, e5, e6, e7, e8, e9] at hs
    rw [e0, e2, e3, e4, e5, e6, e7, e8, e9] at hl
    exact ⟨hs.trans (samples_agree m c hpre), hl.trans (loss_agrees m c hpre), hargs⟩

/-- Every claim of the certificate. -/
theorem claim : Cert.Claim :=
  ⟨Cert.Kernel.Gen.facts, Cert.KernelIdeal.Gen.facts, Cert.ReferenceIdeal.Gen.facts, Cert.Pre_zero_biases.Gen.facts,
    frame_kernel, frame_ideal, frame_ideal_pre, frame_reference, frame_reference_pre, preserves, algebraic⟩

end Cert.Proof

end
